-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nothing_masked [hPre_nothing_masked : Cert.Pre_nothing_masked.Facts] (m : (ℓ : Loc Cert.KernelIdeal.nD Cert.KernelIdeal.τ Cert.KernelIdeal.sig) → Buf (Elt Ideal) ℓ) : Prop :=
  ∀ c : Dev Cert.KernelIdeal.nD,
    (Cert.Pre_nothing_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nothing_masked [hPre_nothing_masked : Cert.Pre_nothing_masked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nothing_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_nothing_masked [hKernelIdeal : Cert.KernelIdeal.Facts] [hPre_nothing_masked : Cert.Pre_nothing_masked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nothing_masked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_nothing_masked [hReferenceIdeal : Cert.ReferenceIdeal.Facts] [hPre_nothing_masked : Cert.Pre_nothing_masked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nothing_masked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_nothing_masked [hKernelIdeal : Cert.KernelIdeal.Facts] [hReferenceIdeal : Cert.ReferenceIdeal.Facts] [hPre_nothing_masked : Cert.Pre_nothing_masked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nothing_masked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_nothing_masked : Cert.Pre_nothing_masked.Facts),
    quiescent_Kernel (hKernel := hKernel)
    ∧ quiescent_KernelIdeal (hKernelIdeal := hKernelIdeal)
    ∧ quiescent_KernelIdeal_pre_nothing_masked (hKernelIdeal := hKernelIdeal) (hPre_nothing_masked := hPre_nothing_masked)
    ∧ quiescent_ReferenceIdeal (hReferenceIdeal := hReferenceIdeal)
    ∧ quiescent_ReferenceIdeal_pre_nothing_masked (hReferenceIdeal := hReferenceIdeal) (hPre_nothing_masked := hPre_nothing_masked)
    ∧ preserves_Kernel_KernelIdeal
    ∧ algebraic_KernelIdeal_ReferenceIdeal_pre_nothing_masked (hKernelIdeal := hKernelIdeal) (hReferenceIdeal := hReferenceIdeal) (hPre_nothing_masked := hPre_nothing_masked)
-- ==== Pre_nothing_masked.lean ====
abbrev S128x1024x256 : Shape := ⟨3, ![128, 1024, 256]⟩
abbrev S128x1024 : Shape := ⟨2, ![128, 1024]⟩
abbrev S256x256 : Shape := ⟨2, ![256, 256]⟩
abbrev S256 : Shape := ⟨1, ![256]⟩
abbrev S1x1x256 : Shape := ⟨3, ![1, 1, 256]⟩
abbrev S1x1024x256 : Shape := ⟨3, ![1, 1024, 256]⟩

class Facts : Prop where

variable [Facts]

def fn {F : FTy → Type} [FloatOps F] (main_arg0 : FVec F S128x1024x256 .f32) (main_arg1 : IVec S128x1024 1) (main_arg2 : FVec F S256x256 .f32) (main_arg3 : FVec F S256 .f32) (main_arg4 : FVec F S1x1x256 .f32) (main_arg5 : FVec F S1x1024x256 .f32) : IVec S128x1024 1 :=
  let main_v0 : IVec S128x1024 1 := noti main_arg1
  main_v0
-- ==== Kernel.lean ====
abbrev S128x1024x256 : Shape := ⟨3, ![128, 1024, 256]⟩
abbrev S128x1024 : Shape := ⟨2, ![128, 1024]⟩
abbrev S256x256 : Shape := ⟨2, ![256, 256]⟩
abbrev S256 : Shape := ⟨1, ![256]⟩
abbrev S1x1x256 : Shape := ⟨3, ![1, 1, 256]⟩
abbrev S1x1024x256 : Shape := ⟨3, ![1, 1024, 256]⟩
abbrev S1x256 : Shape := ⟨2, ![1, 256]⟩
abbrev S1024x256 : Shape := ⟨2, ![1024, 256]⟩
abbrev S8x1024x256 : Shape := ⟨3, ![8, 1024, 256]⟩
abbrev S8192x256 : Shape := ⟨2, ![8192, 256]⟩

abbrev nBuf : Space → Nat
  | .hbm => 11
  | .vmem => 9
  | .smem => 0
  | _ => 0

abbrev bufTy : (tb : Table) → Fin (tcTables nBuf tb) → BufTy
  | .hbm, ⟨0, _⟩ => ⟨S128x1024x256, .f32⟩
  | .hbm, ⟨1, _⟩ => ⟨S128x1024, .i1⟩
  | .hbm, ⟨2, _⟩ => ⟨S256x256, .f32⟩
  | .hbm, ⟨3, _⟩ => ⟨S256, .f32⟩
  | .hbm, ⟨4, _⟩ => ⟨S1x1x256, .f32⟩
  | .hbm, ⟨5, _⟩ => ⟨S1x1024x256, .f32⟩
  | .hbm, ⟨6, _⟩ => ⟨S256x256, .f32⟩
  | .hbm, ⟨7, _⟩ => ⟨S1x256, .f32⟩
  | .hbm, ⟨8, _⟩ => ⟨S1024x256, .f32⟩
  | .hbm, ⟨9, _⟩ => ⟨S128x1024x256, .f32⟩
  | .hbm, ⟨10, _⟩ => ⟨S128x1024x256, .f32⟩
  | .local _ .vmem, ⟨0, _⟩ => ⟨S8x1024x256, .f32⟩
  | .local _ .vmem, ⟨1, _⟩ => ⟨S8x1024x256, .f32⟩
  | .local _ .vmem, ⟨2, _⟩ => ⟨S256x256, .f32⟩
  | .local _ .vmem, ⟨3, _⟩ => ⟨S1x256, .f32⟩
  | .local _ .vmem, ⟨4, _⟩ => ⟨S1024x256, .f32⟩
  | .local _ .vmem, ⟨5, _⟩ => ⟨S8x1024x256, .f32⟩
  | .local _ .vmem, ⟨6, _⟩ => ⟨S8x1024x256, .f32⟩
  | .local _ .vmem, ⟨7, _⟩ => ⟨S8x1024x256, .f32⟩
  | .local _ .vmem, ⟨8, _⟩ => ⟨S8x1024x256, .f32⟩
  | _, _ => ⟨S128x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S128x1024x256 : Shape := ⟨3, ![128, 1024, 256]⟩
abbrev S128x1024 : Shape := ⟨2, ![128, 1024]⟩
abbrev S256x256 : Shape := ⟨2, ![256, 256]⟩
abbrev S256 : Shape := ⟨1, ![256]⟩
abbrev S1x1x256 : Shape := ⟨3, ![1, 1, 256]⟩
abbrev S1x1024x256 : Shape := ⟨3, ![1, 1024, 256]⟩
abbrev S131072x256 : Shape := ⟨2, ![131072, 256]⟩
abbrev S131072 : Shape := ⟨1, ![131072]⟩
abbrev S_ : Shape := ⟨0, ![]⟩
abbrev S131072x1 : Shape := ⟨2, ![131072, 1]⟩
abbrev S1 : Shape := ⟨1, ![1]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S128x1024x256, .f32⟩
  | .hbm, ⟨1, _⟩ => ⟨S128x1024, .i1⟩
  | .hbm, ⟨2, _⟩ => ⟨S256x256, .f32⟩
  | .hbm, ⟨3, _⟩ => ⟨S256, .f32⟩
  | .hbm, ⟨4, _⟩ => ⟨S1x1x256, .f32⟩
  | .hbm, ⟨5, _⟩ => ⟨S1x1024x256, .f32⟩
  | .hbm, ⟨6, _⟩ => ⟨S256x256, .f32⟩
  | .hbm, ⟨7, _⟩ => ⟨S128x1024x256, .f32⟩
  | .hbm, ⟨8, _⟩ => ⟨S1x1x256, .f32⟩
  | .hbm, ⟨9, _⟩ => ⟨S128x1024x256, .f32⟩
  | .hbm, ⟨10, _⟩ => ⟨S128x1024x256, .f32⟩
  | .hbm, ⟨11, _⟩ => ⟨S131072x256, .f32⟩
  | .hbm, ⟨12, _⟩ => ⟨S128x1024, .i1⟩
  | .hbm, ⟨13, _⟩ => ⟨S131072, .i1⟩
  | .hbm, ⟨14, _⟩ => ⟨S131072, .i32⟩
  | .hbm, ⟨15, _⟩ => ⟨S_, .i32⟩
  | .hbm, ⟨16, _⟩ => ⟨S_, .i32⟩
  | .hbm, ⟨17, _⟩ => ⟨S131072, .i32⟩
  | .hbm, ⟨18, _⟩ => ⟨S_, .i32⟩
  | .hbm, ⟨19, _⟩ => ⟨S131072, .i32⟩
  | .hbm, ⟨20, _⟩ => ⟨S131072, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S131072, .i32⟩
  | .hbm, ⟨25, _⟩ => ⟨S131072, .i32⟩
  | .hbm, ⟨26, _⟩ => ⟨S_, .i32⟩
  | .hbm, ⟨27, _⟩ => ⟨S131072, .i32⟩
  | .hbm, ⟨28, _⟩ => ⟨S131072, .i32⟩
  | .hbm, ⟨29, _⟩ => ⟨S_, .i32⟩
  | .hbm, ⟨30, _⟩ => ⟨S131072, .i32⟩
  | .hbm, ⟨31, _⟩ => ⟨S131072, .i1⟩
  | .hbm, ⟨32, _⟩ => ⟨S_, .i32⟩
  | .hbm, ⟨33, _⟩ => ⟨S131072, .i32⟩
  | .hbm, ⟨34, _⟩ => ⟨S131072, .i32⟩
  | .hbm, ⟨35, _⟩ => ⟨S131072, .i32⟩
  | .hbm, ⟨36, _⟩ => ⟨S131072x1, .i32⟩
  | .hbm, ⟨37, _⟩ => ⟨S1, .i32⟩
  | .hbm, ⟨38, _⟩ => ⟨S_, .i32⟩
  | .hbm, ⟨39, _⟩ => ⟨S131072x1, .i32⟩
  | .hbm, ⟨40, _⟩ => ⟨S131072x1, .i1⟩
  | .hbm, ⟨41, _⟩ => ⟨S1x1, .i32⟩
  | .hbm, ⟨42, _⟩ => ⟨S131072x1, .i32⟩
  | .hbm, ⟨43, _⟩ => ⟨S131072x1, .i1⟩
  | .hbm, ⟨44, _⟩ => ⟨S131072x1, .i1⟩
  | .hbm, ⟨45, _⟩ => ⟨S_, .i1⟩
  | .hbm, ⟨46, _⟩ => ⟨S131072, .i1⟩
  | .hbm, ⟨47, _⟩ => ⟨S131072x256, .f32⟩
  | .hbm, ⟨48, _⟩ => ⟨S131072x256, .i1⟩
  | .hbm, ⟨49, _⟩ => ⟨S_, .f32⟩
  | .hbm, ⟨50, _⟩ => ⟨S131072x256, .f32⟩
  | .hbm, ⟨51, _⟩ => ⟨S131072x256, .f32⟩
  | .hbm, ⟨52, _⟩ => ⟨S128x1024x256, .f32⟩
  | .hbm, ⟨53, _⟩ => ⟨S131072x256, .f32⟩
  | .hbm, ⟨54, _⟩ => ⟨S131072x1, .i1⟩
  | .hbm, ⟨55, _⟩ => ⟨S131072x256, .i1⟩
  | .hbm, ⟨56, _⟩ => ⟨S131072x256, .f32⟩
  | .hbm, ⟨57, _⟩ => ⟨S128x1024x256, .f32⟩
  | .hbm, ⟨58, _⟩ => ⟨S128x1024x256, .f32⟩
  | .hbm, ⟨59, _⟩ => ⟨S128x1024x256, .f32⟩
  | _, _ => ⟨S128x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_call0_c : Ref sig .tc := ⟨.hbm, 15, rfl⟩
abbrev main_call0_call0_v0 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_c_1 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v12 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_v14 : Ref sig .tc := ⟨.hbm, 48, rfl⟩
abbrev main_call2_cst : Ref sig .tc := ⟨.hbm, 49, rfl⟩
abbrev main_call2_v15 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_call3_v0 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩

abbrev nD : Nat := 1
abbrev τ : Topo := Topo.v7x

variable {F : FTy → Type} [FloatOps F]
-- ==== Proof.Spec.lean ====
/-
  The mathematics that both programs compute, over the extended reals: a linear map of each row of `x`, and that map
  with a positional term added.
-/
module

public import Idealize.ShloMosaic.PureOps
public import Idealize.ShloMosaic.PureOps.Ideal
public import Idealize.ShloMosaic.Lib.ValueIdxCore

@[expose] public section

noncomputable section

namespace Cert.Embed

open Idealize.ShloMosaic Idealize.ShloMosaic.ValueIdx
open scoped BigOperators

/-- The input and result arrays: batch, position, channel. -/
abbrev Box : Shape := ⟨3, ![128, 1024, 256]⟩
/-- The weight matrix: output channel, input channel. -/
abbrev Sq : Shape := ⟨2, ![256, 256]⟩
/-- The bias: output channel. -/
abbrev Row : Shape := ⟨1, ![256]⟩
/-- The positional table, with its leading axis of one. -/
abbrev Pos : Shape := ⟨3, ![1, 1024, 256]⟩

/-- Channel `e` of the embedding of the row at batch `i`, position `p`: `∑ k, x[i, p, k] · W[e, k] + b[e]`. -/
def emb (x : FVec Ideal Box .f32) (W : FVec Ideal Sq .f32) (b : FVec Ideal Row .f32)
    (i : Fin 128) (p : Fin 1024) (e : Fin 256) : EReal :=
  (∑ k : Fin 256, x (ix3 i p k) * W (ix2 e k)) + b (ix1 e)

/-- The second result: the embedding as an array. -/
def latent (x : FVec Ideal Box .f32) (W : FVec Ideal Sq .f32) (b : FVec Ideal Row .f32) : FVec Ideal Box .f32 :=
  fun j => emb x W b (j 0) (j 1) (j 2)

/-- The first result where nothing is masked: the embedding plus the positional table's row at the position. -/
def shifted (x : FVec Ideal Box .f32) (W : FVec Ideal Sq .f32) (b : FVec Ideal Row .f32) (q : FVec Ideal Pos .f32) :
    FVec Ideal Box .f32 :=
  fun j => emb x W b (j 0) (j 1) (j 2) + q (ix3 (0 : Fin 1) (j 1) (j 2))

end Cert.Embed

end
-- ==== Proof.Block.lean ====
/-
  What one grid point of the kernel computes from its four blocks: the product of the eight batches' rows with the
  transposed weight plus the bias, and that plus the positional table.
-/
module

public import proofs.«01_k».proof.Proof.Spec
public import proofs.«01_k».proof.Proof.Gen.KernelIdeal.Skeleton
public import Idealize.ShloMosaic.PureOps.Ideal.Laws
public import Idealize.ShloMosaic.Lib.Pipeline.Value
public import Idealize.ShloMosaic.Lib.ValueIdx
public import Idealize.ShloMosaic.Lib.MatmulPlain

@[expose] public section

noncomputable section

namespace Cert.KernelIdeal.Embed

open Cert.KernelIdeal Cert.KernelIdeal.Gen Cert.Embed
open Idealize.ShloMosaic Idealize.ShloMosaic.ValueIdx
open scoped BigOperators

/-- The flattened row of batch `a`, position `p` of a block. -/
def flat (a : Fin 8) (p : Fin 1024) : Fin 8192 := ⟨a.val * 1024 + p.val, by omega⟩

/-- The block's rows flattened: row `flat a p` is the block's row at `(a, p)`. -/
theorem rows_apply (x : FVec Ideal S8x1024x256 .f32) (a : Fin 8) (p : Fin 1024) (k : Fin 256) :
    shapeCast S8192x256 x shapeCasts_S8x1024x256_S8192x256 (ix2 (flat a p) k) = x (ix3 a p k) := by
  refine shapeCast_apply _ _ _ _ ?_
  rw [Shape.rowMajor_val_three, Shape.rowMajor_val_two]
  rfl

/-- Rows folded back into a block: the block at `(a, p)` is row `flat a p`. -/
theorem fold_apply (y : FVec Ideal S8192x256 .f32) (a : Fin 8) (p : Fin 1024) (e : Fin 256) :
    shapeCast S8x1024x256 y shapeCasts_S8192x256_S8x1024x256 (ix3 a p e) = y (ix2 (flat a p) e) := by
  refine shapeCast_apply _ _ _ _ ?_
  rw [Shape.rowMajor_val_three, Shape.rowMajor_val_two]
  rfl

/-- The bias row broadcast over the flattened rows is the bias at the channel. -/
theorem bias_apply (b : FVec Ideal S1x256 .f32) (r : Fin 8192) (e : Fin 256) :
    broadcastTo S8192x256 (shapeCast S1x256 (shapeCast S256 b shapeCasts_S1x256_S256) shapeCasts_S256_S1x256)
      broadcasts_S1x256_S8192x256 (ix2 r e) = b (ix2 (0 : Fin 1) e) := by
  rw [shapeCast_shapeCast]
  exact broadcastTo_apply _ _ _ _ fun a => match a with | ⟨0, _⟩ => rfl | ⟨1, _⟩ => rfl

/-- The product of the flattened rows with a matrix, from a zero accumulator. -/
theorem product_apply (l : FVec Ideal S8192x256 .f32) (A : FVec Ideal S256x256 .f32) (r : Fin 8192) (e : Fin 256) :
    matmul (F := Ideal) (φ₁ := .f32) (φ₂ := .f32) dot_S8192x256_S256x256_S8192x256_1_0_0_1_n_n none l A
      (constant S8192x256 .f32 0x00000000#32) (ix2 r e) = ∑ k : Fin 256, l (ix2 r k) * A (ix2 k e) := by
  refine (Ideal.matmul_plain_apply (M := 8192) (K := 256) (N := 256) none l A _ r e).trans ?_
  refine (congrArg (· + _) ?_).trans (zero_add _)
  exact Ideal.ofBits_zero_f32

/-- The embedding's block at `(a, p, e)`. -/
theorem pay1_apply (x : FVec Ideal S8x1024x256 .f32) (A : FVec Ideal S256x256 .f32) (b : FVec Ideal S1x256 .f32)
    (a : Fin 8) (p : Fin 1024) (e : Fin 256) :
    k0_pay1 x A b (ix3 a p e) = (∑ k : Fin 256, x (ix3 a p k) * A (ix2 k e)) + b (ix2 (0 : Fin 1) e) := by
  unfold k0_pay1
  refine (fold_apply _ _ _ _).trans (congrArg₂ (· + ·) ?_ (bias_apply b _ _))
  refine (product_apply _ _ _ _).trans (Finset.sum_congr rfl fun k _ => ?_)
  rw [rows_apply, shapeCast_self]

/-- The positional table broadcast over a block's batches is the table at the position and channel. -/
theorem position_apply (q : FVec Ideal S1024x256 .f32) (a : Fin 8) (p : Fin 1024) (e : Fin 256) :
    broadcastTo S8x1024x256 (shapeCast S1x1024x256 (shapeCast S1024x256 q shapeCasts_S1024x256_S1024x256)
      shapeCasts_S1024x256_S1x1024x256) broadcasts_S1x1024x256_S8x1024x256 (ix3 a p e) = q (ix2 p e) := by
  rw [shapeCast_self]
  refine (broadcastTo_apply _ _ _ (ix3 (0 : Fin 1) p e) fun k => ?_).trans (shapeCast_apply _ _ _ _ ?_)
  · match k with | ⟨0, _⟩ => rfl | ⟨1, _⟩ => rfl | ⟨2, _⟩ => rfl
  · rw [Shape.rowMajor_val_three, Shape.rowMajor_val_two]
    show p.val * 256 + e.val = (0 * 1024 + p.val) * 256 + e.val
    omega

/-- The first result's block at `(a, p, e)`. -/
theorem pay2_apply (x : FVec Ideal S8x1024x256 .f32) (A : FVec Ideal S256x256 .f32) (b : FVec Ideal S1x256 .f32)
    (q : FVec Ideal S1024x256 .f32) (a : Fin 8) (p : Fin 1024) (e : Fin 256) :
    k0_pay2 x A b q (ix3 a p e)
      = ((∑ k : Fin 256, x (ix3 a p k) * A (ix2 k e)) + b (ix2 (0 : Fin 1) e)) + q (ix2 p e) := by
  unfold k0_pay2
  exact congrArg₂ (· + ·) (pay1_apply x A b a p e) (position_apply q a p e)

end Cert.KernelIdeal.Embed

end
-- ==== Proof.KernelValue.lean ====
/-
  The kernel's two result arrays: each grid point writes back its own eight batches, and together they are the embedding
  plus the positional table, and the embedding.
-/
module

public import proofs.«01_k».proof.Proof.Block
public import proofs.«01_k».proof.Proof.Gen.KernelIdeal.Value
public import Idealize.ShloMosaic.Lib.StableHlo.Run

@[expose] public section

noncomputable section

namespace Cert.KernelIdeal.Embed

open Cert.KernelIdeal Cert.KernelIdeal.Gen Cert.Embed
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-! ## The arguments on one device -/

/-- The input. -/
abbrev inX (c : Dev nD) : FVec Ideal Box .f32 := m ((c : Thread nD τ).loc main_arg0)
/-- The weight. -/
abbrev inW (c : Dev nD) : FVec Ideal Sq .f32 := m ((c : Thread nD τ).loc main_arg2)
/-- The bias. -/
abbrev inB (c : Dev nD) : FVec Ideal Row .f32 := m ((c : Thread nD τ).loc main_arg3)
/-- The positional table. -/
abbrev inQ (c : Dev nD) : FVec Ideal Pos .f32 := m ((c : Thread nD τ).loc main_arg5)

/-! ## What the launch finds in its operands -/

/-- The weight operand holds the weight transposed. -/
theorem operand_weight (c : Dev nD) (k e : Fin 256) : V m c main_v0 (ix2 k e) = inW m c (ix2 e k) := by
  have h : V m c main_v0 = transpose S256x256 [1, 0] (inW m c) transposes_S256x256_S256x256_1_0 := by
    unfold V
    after_results
  rw [h]
  exact transpose_apply _ _ _ _ _ fun a => match a with | ⟨0, _⟩ => rfl | ⟨1, _⟩ => rfl

/-- The bias operand holds the bias as one row. -/
theorem operand_bias (c : Dev nD) (o : Fin 1) (e : Fin 256) : V m c main_v1 (ix2 o e) = inB m c (ix1 e) := by
  have h : V m c main_v1 = shapeCast S1x256 (inB m c) shapeCasts_S256_S1x256 := by
    unfold V
    after_results
    rfl
  rw [h]
  refine shapeCast_apply _ _ _ _ ?_
  rw [Shape.rowMajor_val_two, Shape.rowMajor_val_one]
  show e.val = o.val * 256 + e.val
  omega

/-- The positional operand holds the positional table without its leading axis. -/
theorem operand_position (c : Dev nD) (p : Fin 1024) (e : Fin 256) :
    V m c main_v2 (ix2 p e) = inQ m c (ix3 (0 : Fin 1) p e) := by
  have h : V m c main_v2 = shapeCast S1024x256 (inQ m c) shapeCasts_S1x1024x256_S1024x256 := by
    unfold V
    after_results
    rfl
  rw [h]
  refine shapeCast_apply _ _ _ _ ?_
  rw [Shape.rowMajor_val_three, Shape.rowMajor_val_two]
  show (0 * 1024 + p.val) * 256 + e.val = p.val * 256 + e.val
  omega

/-! ## The blocks of one grid point -/

/-- The batch that row `a` of grid point `t`'s block is. -/
def batch (t : Fin cfg0.N) (a : Fin 8) : Fin 128 :=
  ⟨8 * t.val + a.val, by have h : t.val < 16 := t.isLt; omega⟩

/-- The input's and the results' blocks start at batch `8 t`, the whole arrays' at zero. -/
theorem starts : ∀ t : Fin cfg0.N,
    (win0_0.index t 0 = t.val ∧ win0_0.index t 1 = 0 ∧ win0_0.index t 2 = 0)
    ∧ (win0_1.index t 0 = 0 ∧ win0_1.index t 1 = 0) ∧ (win0_2.index t 0 = 0 ∧ win0_2.index t 1 = 0)
    ∧ (win0_3.index t 0 = 0 ∧ win0_3.index t 1 = 0)
    ∧ (win0_4.index t 0 = t.val ∧ win0_4.index t 1 = 0 ∧ win0_4.index t 2 = 0)
    ∧ (win0_5.index t 0 = t.val ∧ win0_5.index t 1 = 0 ∧ win0_5.index t 2 = 0) :=
  (by decide +kernel : ∀ t : Fin grid0.N,
    (win0_0.index t 0 = t.val ∧ win0_0.index t 1 = 0 ∧ win0_0.index t 2 = 0)
    ∧ (win0_1.index t 0 = 0 ∧ win0_1.index t 1 = 0) ∧ (win0_2.index t 0 = 0 ∧ win0_2.index t 1 = 0)
    ∧ (win0_3.index t 0 = 0 ∧ win0_3.index t 1 = 0)
    ∧ (win0_4.index t 0 = t.val ∧ win0_4.index t 1 = 0 ∧ win0_4.index t 2 = 0)
    ∧ (win0_5.index t 0 = t.val ∧ win0_5.index t 1 = 0 ∧ win0_5.index t 2 = 0))

/-- The input's block holds its eight batches. -/
theorem block_input (c : Dev nD) (t : Fin cfg0.N) (a : Fin 8) (p : Fin 1024) (k : Fin 256) :
    (iblk m c 0 t : FVec Ideal S8x1024x256 .f32) (ix3 a p k) = inX m c (ix3 (batch t a) p k) := by
  obtain ⟨h0, h1, h2⟩ := (starts t).1
  unfold iblk
  rw [View.read_apply]
  show V m c main_arg0 _ = _
  rw [V_main_arg0]
  refine congrArg (inX m c) (funext fun d => Fin.ext ?_)
  match d with
  | ⟨0, _⟩ => show win0_0.index t 0 * 8 + 1 * a.val = 8 * t.val + a.val; rw [h0]; omega
  | ⟨1, _⟩ => show win0_0.index t 1 * 1024 + 1 * p.val = p.val; rw [h1]; omega
  | ⟨2, _⟩ => show win0_0.index t 2 * 256 + 1 * k.val = k.val; rw [h2]; omega

/-- The weight's block is the transposed weight. -/
theorem block_weight (c : Dev nD) (t : Fin cfg0.N) (k e : Fin 256) :
    (iblk m c 1 t : FVec Ideal S256x256 .f32) (ix2 k e) = inW m c (ix2 e k) := by
  obtain ⟨h0, h1⟩ := (starts t).2.1
  unfold iblk
  rw [View.read_apply]
  refine Eq.trans ?_ (operand_weight m c k e)
  show V m c main_v0 _ = _
  refine congrArg (V m c main_v0) (funext fun d => Fin.ext ?_)
  match d with
  | ⟨0, _⟩ => show win0_1.index t 0 * 256 + 1 * k.val = k.val; rw [h0]; omega
  | ⟨1, _⟩ => show win0_1.index t 1 * 256 + 1 * e.val = e.val; rw [h1]; omega

/-- The bias's block is the bias. -/
theorem block_bias (c : Dev nD) (t : Fin cfg0.N) (o : Fin 1) (e : Fin 256) :
    (iblk m c 2 t : FVec Ideal S1x256 .f32) (ix2 o e) = inB m c (ix1 e) := by
  obtain ⟨h0, h1⟩ := (starts t).2.2.1
  unfold iblk
  rw [View.read_apply]
  refine Eq.trans ?_ (operand_bias m c o e)
  show V m c main_v1 _ = _
  refine congrArg (V m c main_v1) (funext fun d => Fin.ext ?_)
  match d with
  | ⟨0, _⟩ => show win0_2.index t 0 * 1 + 1 * o.val = o.val; rw [h0]; omega
  | ⟨1, _⟩ => show win0_2.index t 1 * 256 + 1 * e.val = e.val; rw [h1]; omega

/-- The positional table's block is the positional table. -/
theorem block_position (c : Dev nD) (t : Fin cfg0.N) (p : Fin 1024) (e : Fin 256) :
    (iblk m c 3 t : FVec Ideal S1024x256 .f32) (ix2 p e) = inQ m c (ix3 (0 : Fin 1) p e) := by
  obtain ⟨h0, h1⟩ := (starts t).2.2.2.1
  unfold iblk
  rw [View.read_apply]
  refine Eq.trans ?_ (operand_position m c p e)
  show V m c main_v2 _ = _
  refine congrArg (V m c main_v2) (funext fun d => Fin.ext ?_)
  match d with
  | ⟨0, _⟩ => show win0_3.index t 0 * 1024 + 1 * p.val = p.val; rw [h0]; omega
  | ⟨1, _⟩ => show win0_3.index t 1 * 256 + 1 * e.val = e.val; rw [h1]; omega

/-! ## What a grid point writes back -/

/-- The three zero offsets of a whole-block access. -/
theorem zeros3 : (![0, 0, 0] : Fin 3 → Nat) = fun _ => 0 := funext fun a => by fin_cases a <;> rfl
/-- The two zero offsets of a whole-block access. -/
theorem zeros2 : (![0, 0] : Fin 2 → Nat) = fun _ => 0 := funext fun a => by fin_cases a <;> rfl

/-- The embedding's block at grid point `t`. -/
theorem emb_block (c : Dev nD) (t : Fin cfg0.N) (a : Fin 8) (p : Fin 1024) (e : Fin 256) :
    k0_pay1 (iblk m c 0 t : FVec Ideal S8x1024x256 .f32) (iblk m c 1 t : FVec Ideal S256x256 .f32)
      (iblk m c 2 t : FVec Ideal S1x256 .f32) (ix3 a p e) = emb (inX m c) (inW m c) (inB m c) (batch t a) p e := by
  refine (pay1_apply _ _ _ a p e).trans ?_
  refine congrArg₂ (· + ·) (Finset.sum_congr rfl fun k _ => ?_) (block_bias m c t 0 e)
  exact congrArg₂ (· * ·) (block_input m c t a p k) (block_weight m c t k e)

/-- The embedding's staging block after grid point `t`. -/
theorem staged_latent (c : Dev nD) (t : Fin cfg0.N) (a : Fin 8) (p : Fin 1024) (e : Fin 256) :
    out0_5 (iblk m c 0 t) (iblk m c 1 t) (iblk m c 2 t) (iblk m c 3 t) (ix3 a p e)
      = emb (inX m c) (inW m c) (inB m c) (batch t a) p e := by
  unfold out0_5
  rw [View.canon_unit_zero zeros3]
  simp only [View.ld_unit_zero (S := S8x1024x256) zeros3, View.ld_unit_zero (S := S256x256) zeros2,
    View.ld_unit_zero (S := S1x256) zeros2]
  exact emb_block m c t a p e

/-- The first result's staging block after grid point `t`. -/
theorem staged_shifted (c : Dev nD) (t : Fin cfg0.N) (a : Fin 8) (p : Fin 1024) (e : Fin 256) :
    out0_4 (iblk m c 0 t) (iblk m c 1 t) (iblk m c 2 t) (iblk m c 3 t) (ix3 a p e)
      = emb (inX m c) (inW m c) (inB m c) (batch t a) p e + inQ m c (ix3 (0 : Fin 1) p e) := by
  unfold out0_4
  rw [View.canon_unit_zero zeros3]
  simp only [View.ld_unit_zero (S := S8x1024x256) zeros3, View.ld_unit_zero (S := S256x256) zeros2,
    View.ld_unit_zero (S := S1x256) zeros2, View.ld_unit_zero (S := S1024x256) zeros2]
  unfold k0_pay2
  refine congrArg₂ (· + ·) (emb_block m c t a p e) ?_
  exact (Embed.position_apply _ a p e).trans (block_position m c t p e)

/-! ## The result arrays -/

/-- The embedding on device `c`. -/
abbrev outLatent (c : Dev nD) : FVec Ideal Box .f32 := latent (inX m c) (inW m c) (inB m c)
/-- The embedding plus the positional table on device `c`. -/
abbrev outShifted (c : Dev nD) : FVec Ideal Box .f32 := shifted (inX m c) (inW m c) (inB m c) (inQ m c)

/-- Grid point `t` writes back block `t` of the embedding plus the positional table. -/
theorem flushed_shifted (c : Dev nD) (t : Fin cfg0.N) (_ : (cfg0.win 4).flush t = true) :
    (dats m 0 c).flushed 4 t = ((cfg0.win 4).blk t).view.read (Elt Ideal) (outShifted m c) := by
  obtain ⟨h0, h1, h2⟩ := (starts t).2.2.2.2.1
  rw [Value.flushed4]
  funext (j : S8x1024x256.Idx)
  rw [View.read_apply, eq_ix3 j]
  refine (staged_shifted m c t (j 0) (j 1) (j 2)).trans ?_
  show shifted (inX m c) (inW m c) (inB m c) (inQ m c) (ix3 (batch t (j 0)) (j 1) (j 2)) = _
  refine congrArg (outShifted m c) (funext fun d => Fin.ext ?_)
  match d with
  | ⟨0, _⟩ => show 8 * t.val + (j 0).val = win0_4.index t 0 * 8 + 1 * (j 0).val; rw [h0]; omega
  | ⟨1, _⟩ => show (j 1).val = win0_4.index t 1 * 1024 + 1 * (j 1).val; rw [h1]; omega
  | ⟨2, _⟩ => show (j 2).val = win0_4.index t 2 * 256 + 1 * (j 2).val; rw [h2]; omega

/-- Grid point `t` writes back block `t` of the embedding. -/
theorem flushed_latent (c : Dev nD) (t : Fin cfg0.N) (_ : (cfg0.win 5).flush t = true) :
    (dats m 0 c).flushed 5 t = ((cfg0.win 5).blk t).view.read (Elt Ideal) (outLatent m c) := by
  obtain ⟨h0, h1, h2⟩ := (starts t).2.2.2.2.2
  rw [Value.flushed5]
  funext (j : S8x1024x256.Idx)
  rw [View.read_apply, eq_ix3 j]
  refine (staged_latent m c t (j 0) (j 1) (j 2)).trans ?_
  show latent (inX m c) (inW m c) (inB m c) (ix3 (batch t (j 0)) (j 1) (j 2)) = _
  refine congrArg (outLatent m c) (funext fun d => Fin.ext ?_)
  match d with
  | ⟨0, _⟩ => show 8 * t.val + (j 0).val = win0_5.index t 0 * 8 + 1 * (j 0).val; rw [h0]; omega
  | ⟨1, _⟩ => show (j 1).val = win0_5.index t 1 * 1024 + 1 * (j 1).val; rw [h1]; omega
  | ⟨2, _⟩ => show (j 2).val = win0_5.index t 2 * 256 + 1 * (j 2).val; rw [h2]; omega

/-- The grid point that covers batch `i`. -/
def pointOf (i : Fin 128) : Fin cfg0.N := ⟨i.val / 8, by show _ < 16; omega⟩

/-- Every index of the first result lies in the block of its batch's grid point. -/
theorem covered_shifted (i : S128x1024x256.Idx) : i ∈ ((cfg0.win 4).blk (pointOf (i 0))).view.set := by
  obtain ⟨h0, h1, h2⟩ := (starts (pointOf (i 0))).2.2.2.2.1
  show i ∈ ((View.whole main_v3_0).slice (win0_4.rect (pointOf (i 0)))).set
  rw [View.set_slice_whole, Rect.mem_set_unit]
  have b0 : (pointOf (i 0)).val = (i 0).val / 8 := rfl
  have b1 : (i 1).val < 1024 := (i 1).isLt
  have b2 : (i 2).val < 256 := (i 2).isLt
  intro d
  match d with
  | ⟨0, _⟩ =>
    show win0_4.index (pointOf (i 0)) 0 * 8 ≤ (i 0).val ∧ (i 0).val < win0_4.index (pointOf (i 0)) 0 * 8 + 8
    rw [h0]; omega
  | ⟨1, _⟩ =>
    show win0_4.index (pointOf (i 0)) 1 * 1024 ≤ (i 1).val ∧ (i 1).val < win0_4.index (pointOf (i 0)) 1 * 1024 + 1024
    rw [h1]; omega
  | ⟨2, _⟩ =>
    show win0_4.index (pointOf (i 0)) 2 * 256 ≤ (i 2).val ∧ (i 2).val < win0_4.index (pointOf (i 0)) 2 * 256 + 256
    rw [h2]; omega

/-- Every index of the second result lies in the block of its batch's grid point. -/
theorem covered_latent (i : S128x1024x256.Idx) : i ∈ ((cfg0.win 5).blk (pointOf (i 0))).view.set := by
  obtain ⟨h0, h1, h2⟩ := (starts (pointOf (i 0))).2.2.2.2.2
  show i ∈ ((View.whole main_v3_1).slice (win0_5.rect (pointOf (i 0)))).set
  rw [View.set_slice_whole, Rect.mem_set_unit]
  have b0 : (pointOf (i 0)).val = (i 0).val / 8 := rfl
  have b1 : (i 1).val < 1024 := (i 1).isLt
  have b2 : (i 2).val < 256 := (i 2).isLt
  intro d
  match d with
  | ⟨0, _⟩ =>
    show win0_5.index (pointOf (i 0)) 0 * 8 ≤ (i 0).val ∧ (i 0).val < win0_5.index (pointOf (i 0)) 0 * 8 + 8
    rw [h0]; omega
  | ⟨1, _⟩ =>
    show win0_5.index (pointOf (i 0)) 1 * 1024 ≤ (i 1).val ∧ (i 1).val < win0_5.index (pointOf (i 0)) 1 * 1024 + 1024
    rw [h1]; omega
  | ⟨2, _⟩ =>
    show win0_5.index (pointOf (i 0)) 2 * 256 ≤ (i 2).val ∧ (i 2).val < win0_5.index (pointOf (i 0)) 2 * 256 + 256
    rw [h2]; omega

/-- The first result's array after the launch is the embedding plus the positional table. -/
theorem final_shifted (c : Dev nD) : (dats m 0 c).arrAt 4 cfg0.N = outShifted m c :=
  (dats m 0 c).arrAt_eq_of_cover 4 (outShifted m c) (flushed_shifted m c) fun i =>
    ⟨pointOf (i 0), flush0_4 _, covered_shifted i⟩

/-- The second result's array after the launch is the embedding. -/
theorem final_latent (c : Dev nD) : (dats m 0 c).arrAt 5 cfg0.N = outLatent m c :=
  (dats m 0 c).arrAt_eq_of_cover 5 (outLatent m c) (flushed_latent m c) fun i =>
    ⟨pointOf (i 0), flush0_5 _, covered_latent i⟩

/-- The kernel's run: the two results hold their closed forms, and the arguments are unchanged. -/
theorem run : θ_run defs (onTc (τ := τ) (main (F := Ideal))) ⟨m, fun _ => 0, ρ⟩ fun r => ∀ c : Dev nD,
      r.2.mem ((c : Thread nD τ).loc main_v3_0) = outShifted m c
      ∧ r.2.mem ((c : Thread nD τ).loc main_v3_1) = outLatent m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final_shifted m c), (h c).2.1.trans (final_latent m c), (h c).2.2⟩)
    (Value.run_blocks m ρ)

end Cert.KernelIdeal.Embed

end
-- ==== Proof.RefLatent.lean ====
/-
  The reference's second result: `x @ W.T + b`, read at an index, is the embedding.
-/
module

public import proofs.«01_k».proof.Proof.Spec
public import proofs.«01_k».proof.Proof.Gen.ReferenceIdeal
public import Idealize.ShloMosaic.PureOps.Ideal.Laws
public import Idealize.ShloMosaic.Lib.Pipeline.Value
public import Idealize.ShloMosaic.Lib.ValueIdx

@[expose] public section

noncomputable section

namespace Cert.ReferenceIdeal.Embed

open Cert.ReferenceIdeal Cert.ReferenceIdeal.Gen Cert.Embed
open Idealize.ShloMosaic Idealize.ShloMosaic.ValueIdx
open scoped BigOperators

/-- The product's dimension numbers: the last axis of `[128, 1024, 256]` against the first of `[256, 256]`. -/
abbrev D : DotDims S128x1024x256 S256x256 S128x1024x256 := dot_S128x1024x256_S256x256_S128x1024x256_2_0_01_1_n_n

/-- The host's product read at `(i, p, e)`: the sum over the contracted channel. -/
theorem product_apply (l : FVec Ideal S128x1024x256 .f32) (r : FVec Ideal S256x256 .f32) (i : Fin 128) (p : Fin 1024) (e : Fin 256) :
    Host.dotGeneral (F := Ideal) (φ₁ := .f32) (φ₂ := .f32) D none l r (ix3 i p e)
      = ∑ k : Fin 256, l (ix3 i p k) * r (ix2 k e) := by
  have hr : D.contr.rank = 1 := rfl
  have hs : D.contr.size ⟨0, by rw [hr]; exact Nat.one_pos⟩ = 256 := rfl
  refine (Ideal.dotGeneral_apply D none _ l r _).trans ?_
  rw [← Equiv.sum_comp (contrEquiv1 D 256 hr hs).symm]
  refine Finset.sum_congr rfl fun k _ => ?_
  have hk := contrEquiv1_symm_val D 256 hr hs k
  have el : D.lhsIdx (ix3 i p e) ((contrEquiv1 D 256 hr hs).symm k) = ix3 i p k := by
    funext a; apply Fin.ext
    match a with
    | ⟨0, _⟩ => rfl
    | ⟨1, _⟩ => rfl
    | ⟨2, _⟩ => exact hk
  have er : D.rhsIdx (ix3 i p e) ((contrEquiv1 D 256 hr hs).symm k) = ix2 k e := by
    funext a; apply Fin.ext
    match a with
    | ⟨0, _⟩ => exact hk
    | ⟨1, _⟩ => rfl
  rw [el, er]

/-- The weight transposed on the host, read at `(k, e)`, is the weight at `(e, k)`. -/
theorem weight_apply (W : FVec Ideal S256x256 .f32) (k e : Fin 256) :
    transpose S256x256 [1, 0] W transposes_S256x256_S256x256_1_0 (ix2 k e) = W (ix2 e k) :=
  transpose_apply _ _ _ _ _ fun a => match a with | ⟨0, _⟩ => rfl | ⟨1, _⟩ => rfl

/-- The bias broadcast over batches and positions, read at `(i, p, e)`, is the bias at `e`. -/
theorem bias_apply (b : FVec Ideal S256 .f32) (i : Fin 128) (p : Fin 1024) (e : Fin 256) :
    broadcastInDim S128x1024x256 ![0, 1, 2] bcast_S1x1x256_S128x1024x256_0_1_2
      (broadcastInDim S1x1x256 ![2] bcast_S256_S1x1x256_2 b) (ix3 i p e) = b (ix1 e) := by
  refine (broadcastInDim_apply _ _ _ _ (ix3 (0 : Fin 1) (0 : Fin 1) e) fun a => ?_).trans
    (broadcastInDim_apply _ _ _ _ (ix1 e) fun a => ?_)
  · match a with | ⟨0, _⟩ => rfl | ⟨1, _⟩ => rfl | ⟨2, _⟩ => rfl
  · match a with | ⟨0, _⟩ => rfl

/-- The reference's embedding, as its operations compose. -/
abbrev refLatent (x : FVec Ideal S128x1024x256 .f32) (W : FVec Ideal S256x256 .f32) (b : FVec Ideal S256 .f32) :
    FVec Ideal S128x1024x256 .f32 :=
  addf (Host.dotGeneral dot_S128x1024x256_S256x256_S128x1024x256_2_0_01_1_n_n none x
      (transpose S256x256 [1, 0] W transposes_S256x256_S256x256_1_0))
    (broadcastInDim S128x1024x256 ![0, 1, 2] bcast_S1x1x256_S128x1024x256_0_1_2 (broadcastInDim S1x1x256 ![2] bcast_S256_S1x1x256_2 b))

/-- The reference's second result is the embedding. -/
theorem refLatent_eq (x : FVec Ideal S128x1024x256 .f32) (W : FVec Ideal S256x256 .f32) (b : FVec Ideal S256 .f32) :
    refLatent x W b = latent x W b := by
  funext j
  rw [eq_ix3 j]
  refine congrArg₂ (· + ·) ((product_apply x _ _ _ _).trans (Finset.sum_congr rfl fun k _ => ?_)) (bias_apply b _ _ _)
  exact congrArg (x (ix3 (j 0) (j 1) k) * ·) (weight_apply W k (j 2))

end Cert.ReferenceIdeal.Embed

end
-- ==== Proof.RefRows.lean ====
/-
  The reference's first result where no position is masked. Every position keeps its row, so the running count of kept
  positions at row `r` is `r + 1`, the row taken for `r` is `r` itself, and the selection returns the embedding as it was.
-/
module

public import proofs.«01_k».proof.Proof.RefLatent
public import Idealize.ShloMosaic.Lib.IdealHost
public import Idealize.ShloMosaic.Lib.Routing.Ops
public import Idealize.ShloMosaic.Lib.Routing.OpsSearch
public import Idealize.ShloMosaic.Lib.Routing.OpsPair
public import Idealize.ShloMosaic.Lib.ReduceAll
public import Idealize.ShloMosaic.Lib.StableHlo.Predicate

@[expose] public section

noncomputable section

namespace Cert.ReferenceIdeal.Embed

open Cert.ReferenceIdeal Cert.ReferenceIdeal.Gen Cert.Embed
open Idealize.ShloMosaic Idealize.ShloMosaic.ValueIdx Idealize.ShloMosaic.Routing

/-! ## The reference's operations, stage by stage -/

/-- Which of the flattened rows are kept. -/
abbrev keep (u : IVec S128x1024 1) : IVec S131072 1 := shapeCast _ u shapeCasts_S128x1024_S131072

/-- How many rows are kept up to and including each row. -/
abbrev count (u : IVec S128x1024 1) : IVec S131072 32 :=
  Host.reduceWindow IntOp.addi ![131072] ![1] ![131071] ![0] (extui 32 (keep u) natLt_1_32)
    (broadcastInDim S_ ![] bcast_S_S_ (constantI S_ 32 0#32)) reduceWindows_S131072_S131072_w131072s1p131071_0 h_S_

/-- One less than the count, clipped to the rows there are. -/
abbrev source (u : IVec S128x1024 1) : IVec S131072 32 :=
  minsi (broadcastInDim S131072 ![] bcast_S_S131072 (id (constantI S_ 32 131071#32)))
    (maxsi (broadcastInDim S131072 ![] bcast_S_S131072 (id (constantI S_ 32 0#32)))
      (subi (count u) (broadcastInDim S131072 ![] bcast_S_S131072 (constantI S_ 32 1#32))))

/-- The row to take, a negative one counted from the end, as a column of row numbers. -/
abbrev column (u : IVec S128x1024 1) : IVec S131072x1 32 :=
  broadcastInDim S131072x1 ![0] bcast_S131072_S131072x1_0
    (select (cmpi .slt (source u) (broadcastInDim S131072 ![] bcast_S_S131072 (constantI S_ 32 0#32)))
      (addi (source u) (broadcastInDim S131072 ![] bcast_S_S131072 (constantI S_ 32 131072#32))) (source u))

/-- Whether the row number lies inside the array. -/
abbrev inside (u : IVec S128x1024 1) : IVec S131072 1 :=
  Host.reduce IntOp.andi
    (andi (cmpi .sge (column u) (broadcastInDim S131072x1 ![] bcast_S_S131072x1 (constantI S_ 32 0#32)))
      (cmpi .sle (column u) (broadcastInDim S131072x1 ![0, 1] bcast_S1x1_S131072x1_0_1
        (broadcastInDim S1x1 ![1] bcast_S1_S1x1_1 (constantI S1 32 131071#32)))))
    (constantI S_ 1 1#1) reducesTo_S131072x1_S131072_d1 h_S_

/-- The rows taken from the flattened array `l`. -/
abbrev taken (u : IVec S128x1024 1) (l : FVec Ideal S131072x256 .f32) : FVec Ideal S131072x256 .f32 :=
  select (broadcastInDim S131072x256 ![0] bcast_S131072_S131072x256_0 (inside u))
    (Host.gather gather_S131072x256_S131072x1_S131072x256_1_0_n_n_0_1_1256 l (column u))
    (broadcastInDim S131072x256 ![] bcast_S_S131072x256 (constant S_ .f32 0x7FC00000#32))

/-- The rows taken where kept, and those of `z` elsewhere. -/
abbrev chosen (u : IVec S128x1024 1) (l z : FVec Ideal S131072x256 .f32) : FVec Ideal S131072x256 .f32 :=
  select (broadcastInDim S131072x256 ![0, 1] bcast_S131072x1_S131072x256_0_1
    (broadcastInDim S131072x1 ![0] bcast_S131072_S131072x1_0 (keep u))) (taken u l) z

/-! ## Their values where every position is kept -/

variable {u : IVec S128x1024 1}

/-- Every row is kept. -/
theorem keep_apply (hu : u = fun _ => 1#1) (j : S131072.Idx) : keep u j = 1#1 := by
  subst hu; rfl

/-- The count at row `r` is `r + 1`. -/
theorem count_apply (hu : u = fun _ => 1#1) (r : Fin 131072) : count u (ix1 r) = BitVec.ofNat 32 (r.val + 1) := by
  refine (cumsum1 (N := 131072) (Nm1 := 131071) rfl _ (fun _ => 1) (fun i => ?_) _
    (broadcastInDim_scalar_apply _ _ _) _ _ r).trans ?_
  · exact (extui_apply _ _ _).trans (congrArg _ (keep_apply hu _))
  · rw [List.map_const', List.sum_replicate, List.length_range, smul_eq_mul, Nat.mul_one]

/-- The source of row `r` is `r`. -/
theorem source_apply (hu : u = fun _ => 1#1) (r : Fin 131072) : source u (ix1 r) = BitVec.ofNat 32 r.val := by
  have hr := r.isLt
  have hs : subi (count u) (broadcastInDim S131072 ![] bcast_S_S131072 (constantI S_ 32 1#32)) (ix1 r) = BitVec.ofNat 32 r.val := by
    refine (congrArg₂ (· - ·) (count_apply hu r) (broadcastInDim_scalar_apply _ _ _)).trans ?_
    exact StableHlo.Predicate.sub_one_ofNat _ (by omega) (by omega)
  refine (congrArg₂ IntOp.minsi (broadcastInDim_scalar_apply _ _ _)
    (congrArg₂ IntOp.maxsi (broadcastInDim_scalar_apply _ _ _) hs)).trans ?_
  refine (clip_word (x := r.val) (lo := 0) (hi := 131071) (by omega) (by omega) (by omega)).trans ?_
  rw [Nat.max_zero, Nat.min_eq_left (by omega)]

/-- The column of row numbers holds `r` at row `r`. -/
theorem column_apply (hu : u = fun _ => 1#1) (r : Fin 131072) (o : Fin 1) : column u (ix2 r o) = BitVec.ofNat 32 r.val := by
  have hr := r.isLt
  refine (broadcastInDim_apply _ _ _ _ (ix1 r) fun a => match a with | ⟨0, _⟩ => rfl).trans ?_
  refine (select_apply _ _ _ _).trans ?_
  have hz : cmpi .slt (source u) (broadcastInDim S131072 ![] bcast_S_S131072 (constantI S_ 32 0#32)) (ix1 r)
      = IntOp.cmpi .slt (source u (ix1 r)) 0#32 :=
    congrArg (IntOp.cmpi .slt (source u (ix1 r))) (broadcastInDim_scalar_apply _ _ _)
  rw [hz, source_apply hu r]
  exact wrap_of_lt _ _ (by rw [BitVec.toNat_ofNat]; omega)

/-- Every row number is inside the array. -/
theorem inside_apply (hu : u = fun _ => 1#1) (j : S131072.Idx) : inside u j = 1#1 := by
  refine Host.reduce_andi_one _ _ _ _ _ rfl fun i => ?_
  rw [eq_ix2 i]
  have hr : (i 0).val < 131072 := (i 0).isLt
  have hc := column_apply hu (i 0) (i 1)
  have hl : cmpi .sge (column u) (broadcastInDim S131072x1 ![] bcast_S_S131072x1 (constantI S_ 32 0#32)) (ix2 (i 0) (i 1)) = 1#1 := by
    refine (congrArg₂ (IntOp.cmpi .sge) hc (broadcastInDim_scalar_apply _ _ _)).trans ?_
    refine (StableHlo.Predicate.sge_iff_toNat ?_ ?_).2 ?_
    · rw [BitVec.toNat_ofNat]; omega
    · exact Nat.two_pow_pos 31
    · exact Nat.zero_le _
  have hh : cmpi .sle (column u) (broadcastInDim S131072x1 ![0, 1] bcast_S1x1_S131072x1_0_1
      (broadcastInDim S1x1 ![1] bcast_S1_S1x1_1 (constantI S1 32 131071#32))) (ix2 (i 0) (i 1)) = 1#1 := by
    refine (congrArg₂ (IntOp.cmpi .sle) hc (rfl : _ = 131071#32)).trans ?_
    refine (StableHlo.Predicate.sle_iff_toNat ?_ ?_).2 ?_
    · rw [BitVec.toNat_ofNat]; omega
    · decide
    · rw [BitVec.toNat_ofNat]
      exact Nat.le_trans (Nat.mod_le _ _) (by show (i 0).val ≤ 131071; omega)
  exact (congrArg₂ IntOp.andi hl hh).trans rfl

/-- The row taken for row `r` is row `r`. -/
theorem taken_apply (hu : u = fun _ => 1#1) (l : FVec Ideal S131072x256 .f32) (r : Fin 131072) (e : Fin 256) :
    taken u l (ix2 r e) = l (ix2 r e) := by
  refine (select_apply _ _ _ _).trans ?_
  have h1 : broadcastInDim S131072x256 ![0] bcast_S131072_S131072x256_0 (inside u) (ix2 r e) = 1#1 :=
    inside_apply hu _
  rw [h1, select_one]
  exact gather_row _ rfl rfl rfl rfl rfl l (column u) r e r (column_apply hu r 0) (by omega)

/-- The selection at row `r`, channel `e` is the array it selects from there. -/
theorem chosen_apply (hu : u = fun _ => 1#1) (l z : FVec Ideal S131072x256 .f32) (r : Fin 131072) (e : Fin 256) :
    chosen u l z (ix2 r e) = l (ix2 r e) := by
  refine (select_apply _ _ _ _).trans ?_
  have h1 : broadcastInDim S131072x256 ![0, 1] bcast_S131072x1_S131072x256_0_1
      (broadcastInDim S131072x1 ![0] bcast_S131072_S131072x1_0 (keep u)) (ix2 r e) = 1#1 :=
    keep_apply hu _
  rw [h1, select_one]
  exact taken_apply hu l r e

/-- The selection returns the array it selects from. -/
theorem chosen_eq (hu : u = fun _ => 1#1) (l z : FVec Ideal S131072x256 .f32) : chosen u l z = l := by
  funext j
  rw [eq_ix2 j]
  exact chosen_apply hu l z (j 0) (j 1)

/-- The positional table broadcast over batches, read at `(i, p, e)`, is the table at `(0, p, e)`. -/
theorem position_apply (q : FVec Ideal S1x1024x256 .f32) (i : Fin 128) (p : Fin 1024) (e : Fin 256) :
    broadcastInDim S128x1024x256 ![0, 1, 2] bcast_S1x1024x256_S128x1024x256_0_1_2 q (ix3 i p e) = q (ix3 (0 : Fin 1) p e) :=
  broadcastInDim_apply _ _ _ _ _ fun a => match a with | ⟨0, _⟩ => rfl | ⟨1, _⟩ => rfl | ⟨2, _⟩ => rfl

/-- The reference's first result, as its operations compose. -/
abbrev refOut (u : IVec S128x1024 1) (l : FVec Ideal S128x1024x256 .f32) (z : FVec Ideal S131072x256 .f32)
    (q : FVec Ideal S1x1024x256 .f32) : FVec Ideal S128x1024x256 .f32 :=
  addf (shapeCast S128x1024x256 (chosen u (shapeCast S131072x256 l shapeCasts_S128x1024x256_S131072x256) z)
      shapeCasts_S131072x256_S128x1024x256)
    (broadcastInDim S128x1024x256 ![0, 1, 2] bcast_S1x1024x256_S128x1024x256_0_1_2 q)

/-- Where every position is kept, the reference's first result is the embedding plus the positional table. -/
theorem refOut_eq (hu : u = fun _ => 1#1) (x : FVec Ideal S128x1024x256 .f32) (W : FVec Ideal S256x256 .f32)
    (b : FVec Ideal S256 .f32) (z : FVec Ideal S131072x256 .f32) (q : FVec Ideal S1x1024x256 .f32) :
    refOut u (refLatent x W b) z q = shifted x W b q := by
  funext j
  rw [eq_ix3 j]
  refine congrArg₂ (· + ·) ?_ (position_apply q _ _ _)
  rw [chosen_eq hu, shapeCast_shapeCast, refLatent_eq]
  rfl

end Cert.ReferenceIdeal.Embed

end
-- ==== Proof.RefValue.lean ====
/-
  The reference's run, read: where no position is masked its first result is the embedding plus the positional table, and
  its second result is always the embedding.
-/
module

public import proofs.«01_k».proof.Proof.RefRows
public import proofs.«01_k».proof.Proof.Gen.ReferenceIdeal.Run
public import Idealize.ShloMosaic.Lib.Quiescent

@[expose] public section

noncomputable section

namespace Cert.ReferenceIdeal.Embed

open Cert.ReferenceIdeal Cert.ReferenceIdeal.Gen Cert.Embed
open Idealize.ShloMosaic Idealize.ShloMosaic.TcCoe Idealize.SL.Sem

variable (m : (ℓ : Loc nD τ sig) → Buf (Elt Ideal) ℓ) (ρ : Dev nD → PrngReg)

/-- The input on device `c`. -/
abbrev inX (c : Dev nD) : FVec Ideal Box .f32 := m ((c : Thread nD τ).loc main_arg0)
/-- The mask on device `c`. -/
abbrev inMask (c : Dev nD) : IVec S128x1024 1 := m ((c : Thread nD τ).loc main_arg1)
/-- The weight on device `c`. -/
abbrev inW (c : Dev nD) : FVec Ideal Sq .f32 := m ((c : Thread nD τ).loc main_arg2)
/-- The bias on device `c`. -/
abbrev inB (c : Dev nD) : FVec Ideal Row .f32 := m ((c : Thread nD τ).loc main_arg3)
/-- The positional table on device `c`. -/
abbrev inQ (c : Dev nD) : FVec Ideal Pos .f32 := m ((c : Thread nD τ).loc main_arg5)

/-- The first result's term where no position is masked. -/
theorem first_eq (c : Dev nD) (h : noti (inMask m c) = fun _ => 1#1) :
    Value.res_out0 m c = shifted (inX m c) (inW m c) (inB m c) (inQ m c) :=
  refOut_eq (u := noti (inMask m c)) h (inX m c) (inW m c) (inB m c) _ (inQ m c)

/-- The run where no position is masked: both results at their closed forms, the arguments unchanged. -/
theorem run (h : ∀ c : Dev nD, noti (inMask m c) = fun _ => 1#1) :
    θ_run defs (onTc (τ := τ) (main (F := Ideal))) ⟨m, fun _ => 0, ρ⟩ fun r => ∀ c : Dev nD,
      r.2.mem ((c : Thread nD τ).loc main_v20) = shifted (inX m c) (inW m c) (inB m c) (inQ m c)
      ∧ r.2.mem ((c : Thread nD τ).loc main_v4) = latent (inX m c) (inW m c) (inB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ hr c => ⟨(hr c).1.trans (first_eq m c (h c)),
      (hr c).2.1.trans (refLatent_eq (inX m c) (inW m c) (inB m c)), (hr c).2.2⟩)
    (Value.run m ρ)

/-- The run from any memory: the arguments unchanged and every counter at zero, as the program has no semaphore. -/
theorem frame : θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0 :=
  (θ_run defs _ _).mono (fun r hr => ⟨fun c => (hr c).2.2, sem_eq_zero_of_no_sems (by decide) r.2⟩) (Value.run m ρ)

end Cert.ReferenceIdeal.Embed

end
-- ==== Proof.lean ====
/-
  The certificate's claim, assembled. The frames of the kernel, at both readings, are the generated ones; the reference's
  comes from its run. The value claim meets in the middle: each side's run ends at the closed forms of `Proof/Spec.lean`,
  a linear map of each row of `x`, and that with the positional table added.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelValue
public import proofs.«01_k».proof.Proof.RefValue

@[expose] public section

noncomputable section

namespace Cert.Proof

open Idealize.ShloMosaic Idealize.SL.Sem

/-- Where no position is masked, the kernel and the reference end with the same two result arrays. -/
theorem value : algebraic_KernelIdeal_ReferenceIdeal_pre_nothing_masked (hKernelIdeal := Cert.KernelIdeal.Gen.facts)
    (hReferenceIdeal := Cert.ReferenceIdeal.Gen.facts) (hPre_nothing_masked := ⟨⟩) := by
  intro m g m' g' hpre hagree
  refine ⟨fun c => Cert.KernelIdeal.Embed.outShifted m c, fun c => Cert.KernelIdeal.Embed.outLatent m c,
    Cert.KernelIdeal.Embed.run m g, ?_⟩
  have hmask : ∀ c, noti (Cert.ReferenceIdeal.Embed.inMask m' c) = fun _ => 1#1 := fun c =>
    (congrArg noti (hagree c).2.1).trans (hpre c)
  refine (θ_run Cert.ReferenceIdeal.defs _ _).mono (fun r hr c => ?_) (Cert.ReferenceIdeal.Embed.run m' g' hmask)
  obtain ⟨a0, _, a2, a3, _, a5⟩ := hagree c
  obtain ⟨r0, r1, rest⟩ := hr c
  refine ⟨r0.trans ?_, r1.trans ?_, rest⟩
  · show Cert.Embed.shifted _ _ _ _ = Cert.Embed.shifted _ _ _ _
    congr 1
  · show Cert.Embed.latent _ _ _ = Cert.Embed.latent _ _ _
    congr 1

/-- Every claim of the certificate: the frames, the idealization's preservation, and the value of both results. -/
theorem claim : Cert.Claim :=
  ⟨Cert.Kernel.Gen.facts, Cert.KernelIdeal.Gen.facts, Cert.ReferenceIdeal.Gen.facts, ⟨⟩,
    fun m g _ => Cert.Kernel.Gen.frame m g,
    fun m g _ => Cert.KernelIdeal.Gen.frame m g,
    fun m g _ => Cert.KernelIdeal.Gen.frame m g,
    fun m g _ => Cert.ReferenceIdeal.Embed.frame m g,
    fun m g _ => Cert.ReferenceIdeal.Embed.frame m g,
    trivial,
    value⟩

end Cert.Proof

end
